-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x256x32 : Shape := ⟨3, ![1024, 256, 32]⟩
abbrev S_ : Shape := ⟨0, ![]⟩

class Facts : Prop where
  bcast_S_S1024x256x32 : S_.BroadcastsInDim S1024x256x32 (![] : Fin 0 → Fin S1024x256x32.rank)
  reducesTo_S1024x256x32_S_d0_1_2 : S1024x256x32.ReducesTo [0, 1, 2] S_
  h_S_ : 0 < S_.numel

variable [Facts]

def fn {F : FTy → Type} [FloatOps F] (main_arg0 : FVec F S1024x256x32 .f32) (main_arg1 : FVec F S1024x256x32 .f32) : IVec S_ 1 :=
  let main_v0 : FVec F S1024x256x32 .f32 := Host.absf main_arg0
  let main_cst : FVec F S_ .f32 := constant S_ .f32 0x7F800000#32
  let main_v1 : FVec F S1024x256x32 .f32 := broadcastInDim S1024x256x32 ![] bcast_S_S1024x256x32 main_cst
  let main_v2 : IVec S1024x256x32 1 := cmpf .olt main_v0 main_v1
  let main_c : IVec S_ 1 := constantI S_ 1 1#1
  let main_v3 : IVec S_ 1 := (fun x v => Host.reduce IntOp.andi x v reducesTo_S1024x256x32_S_d0_1_2 h_S_) main_v2 main_c
  let main_v4 : FVec F S1024x256x32 .f32 := Host.absf main_arg1
  let main_cst_0 : FVec F S_ .f32 := constant S_ .f32 0x7F800000#32
  let main_v5 : FVec F S1024x256x32 .f32 := broadcastInDim S1024x256x32 ![] bcast_S_S1024x256x32 main_cst_0
  let main_v6 : IVec S1024x256x32 1 := cmpf .olt main_v4 main_v5
  let main_c_1 : IVec S_ 1 := constantI S_ 1 1#1
  let main_v7 : IVec S_ 1 := (fun x v => Host.reduce IntOp.andi x v reducesTo_S1024x256x32_S_d0_1_2 h_S_) main_v6 main_c_1
  let main_v8 : IVec S_ 1 := andi main_v3 main_v7
  main_v8
-- ==== Kernel.lean ====
abbrev S1024x256x32 : Shape := ⟨3, ![1024, 256, 32]⟩
abbrev S1024x256x16 : Shape := ⟨3, ![1024, 256, 16]⟩
abbrev S4x256x32 : Shape := ⟨3, ![4, 256, 32]⟩
abbrev S4x256x16 : Shape := ⟨3, ![4, 256, 16]⟩
abbrev S1x256x32 : Shape := ⟨3, ![1, 256, 32]⟩
abbrev S256x32 : Shape := ⟨2, ![256, 32]⟩
abbrev S256x256 : Shape := ⟨2, ![256, 256]⟩
abbrev S1x256x256 : Shape := ⟨3, ![1, 256, 256]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 4
  | .vmem => 8
  | .smem => 0
  | _ => 0

abbrev bufTy : (tb : Table) → Fin (tcTables nBuf tb) → BufTy
  | .hbm, ⟨0, _⟩ => ⟨S1024x256x32, .f32⟩
  | .hbm, ⟨1, _⟩ => ⟨S1024x256x32, .f32⟩
  | .hbm, ⟨2, _⟩ => ⟨S1024x256x16, .f32⟩
  | .hbm, ⟨3, _⟩ => ⟨S1024x256x16, .i32⟩
  | .local _ .vmem, ⟨0, _⟩ => ⟨S4x256x32, .f32⟩
  | .local _ .vmem, ⟨1, _⟩ => ⟨S4x256x32, .f32⟩
  | .local _ .vmem, ⟨2, _⟩ => ⟨S4x256x32, .f32⟩
  | .local _ .vmem, ⟨3, _⟩ => ⟨S4x256x32, .f32⟩
  | .local _ .vmem, ⟨4, _⟩ => ⟨S4x256x16, .f32⟩
  | .local _ .vmem, ⟨5, _⟩ => ⟨S4x256x16, .f32⟩
  | .local _ .vmem, ⟨6, _⟩ => ⟨S4x256x16, .i32⟩
  | .local _ .vmem, ⟨7, _⟩ => ⟨S4x256x16, .i32⟩
  | _, _ => ⟨S1024x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x256x32 : Shape := ⟨3, ![1024, 256, 32]⟩
abbrev S_ : Shape := ⟨0, ![]⟩
abbrev S1024x32x256 : Shape := ⟨3, ![1024, 32, 256]⟩
abbrev S1024x256x256 : Shape := ⟨3, ![1024, 256, 256]⟩
abbrev S1024x256x16 : Shape := ⟨3, ![1024, 256, 16]⟩
abbrev S1024x256 : Shape := ⟨2, ![1024, 256]⟩
abbrev S1024x256x1 : Shape := ⟨3, ![1024, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x256x32, .f32⟩
  | .hbm, ⟨1, _⟩ => ⟨S1024x256x32, .f32⟩
  | .hbm, ⟨2, _⟩ => ⟨S_, .f32⟩
  | .hbm, ⟨3, _⟩ => ⟨S1024x256x32, .f32⟩
  | .hbm, ⟨4, _⟩ => ⟨S1024x256x32, .f32⟩
  | .hbm, ⟨5, _⟩ => ⟨S1024x32x256, .f32⟩
  | .hbm, ⟨6, _⟩ => ⟨S1024x256x256, .f32⟩
  | .hbm, ⟨7, _⟩ => ⟨S1024x256x16, .f32⟩
  | .hbm, ⟨8, _⟩ => ⟨S1024x256x16, .i32⟩
  | .hbm, ⟨9, _⟩ => ⟨S_, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256x1, .f32⟩
  | .hbm, ⟨15, _⟩ => ⟨S1024x256x16, .f32⟩
  | .hbm, ⟨16, _⟩ => ⟨S1024x256x16, .f32⟩
  | .hbm, ⟨17, _⟩ => ⟨S1024x256x16, .f32⟩
  | .hbm, ⟨18, _⟩ => ⟨S_, .f32⟩
  | .hbm, ⟨19, _⟩ => ⟨S1024x256, .f32⟩
  | .hbm, ⟨20, _⟩ => ⟨S1024x256x1, .f32⟩
  | .hbm, ⟨21, _⟩ => ⟨S1024x256x16, .f32⟩
  | .hbm, ⟨22, _⟩ => ⟨S1024x256x16, .f32⟩
  | _, _ => ⟨S1024x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Select.lean ====
/-
  Sixteen rounds of "take the first greatest entry of the row, then set it to −∞" pick, in order, the first positions of
  the stable descending sort of the row. Plain mathematics on a row of extended reals.
-/
module

public import Idealize.ShloMosaic.Lib.SortPrefix
public import Mathlib.Data.EReal.Basic

@[expose] public section

namespace Cert.Select

open Idealize.ShloMosaic

/-- The descending order of the entries of a row: the entry at `k` is greater than the one at `k'`. -/
noncomputable def greater {n : Nat} (f : Fin n → EReal) (k k' : Fin n) : Bool := decide (f k' < f k)

/-- The descending order with equal entries ordered by their positions. -/
noncomputable def greaterThenFirst {n : Nat} (f : Fin n → EReal) (k k' : Fin n) : Bool :=
  decide (f k' < f k) || (decide (f k = f k') && decide (k < k'))

/-- A stable sort never compares a position with one before it in the wrong direction, so it does not see the
    difference between two relations that agree on `R b a` whenever `a` precedes `b` in the list. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort of the positions by their entries is the sort by entry and then position. -/
theorem sortedFrom_greater {n : Nat} (f : Fin n → EReal) :
    sortedFrom (greater f) = sortedFrom (greaterThenFirst f) := by
  have h : sortPositions n (greater f) = sortPositions n (greaterThenFirst f) := by
    refine stableSort_congr_pairwise _ _ _ ?_
    refine (List.pairwise_lt_finRange n).imp fun {a b} hab => ?_
    simp [greater, greaterThenFirst, not_lt_of_gt hab]
  funext k
  unfold sortedFrom
  rw [List.get_of_eq h]
  rfl

/-- Entry and then position is a strict total order on the positions of any row. -/
theorem strictTotal {n : Nat} (f : Fin n → EReal) : StrictTotalBefore (greaterThenFirst f) :=
  StrictTotalBefore.of_key_then_position (fun x y => decide (y < x)) f (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- `p` is the first position at which the row `g` is greatest. -/
structure FirstGreatest {n : Nat} (g : Fin n → EReal) (p : Fin n) : Prop where
  le : ∀ q, g q ≤ g p
  first : ∀ q, g q = g p → p ≤ q

/-- A nonempty row has a first greatest position. -/
theorem exists_firstGreatest {n : Nat} [NeZero n] (g : Fin n → EReal) : ∃ p, FirstGreatest g p := by
  classical
  obtain ⟨m, -, hm⟩ := Finset.exists_max_image Finset.univ g ⟨0, Finset.mem_univ _⟩
  obtain ⟨p, hp, hmin⟩ := Finset.exists_min_image (Finset.univ.filter fun q => g q = g m) id
    ⟨m, by simp⟩
  simp only [Finset.mem_filter, Finset.mem_univ, true_and, id] at hp hmin
  exact ⟨p, fun q => hp ▸ hm q (Finset.mem_univ q), fun q hq => hmin q (hq.trans hp)⟩

/-- The row with the entry at `p` set to −∞. -/
noncomputable def strike {n : Nat} (g : Fin n → EReal) (p : Fin n) : Fin n → EReal :=
  fun q => if q = p then ⊥ else g q

/-- The first greatest position of a row. -/
noncomputable def pick {n : Nat} [NeZero n] (g : Fin n → EReal) : Fin n := (exists_firstGreatest g).choose

/-- The first greatest position is one. -/
theorem pick_spec {n : Nat} [NeZero n] (g : Fin n → EReal) : FirstGreatest g (pick g) :=
  (exists_firstGreatest g).choose_spec

/-- There is one first greatest position only. -/
theorem FirstGreatest.eq_pick {n : Nat} [NeZero n] {g : Fin n → EReal} {p : Fin n} (h : FirstGreatest g p) :
    p = pick g := by
  have hs := pick_spec g
  have e : g p = g (pick g) := le_antisymm (hs.le p) (h.le (pick g))
  exact le_antisymm (h.first _ e.symm) (hs.first _ e)

/-- The row after `r` rounds. -/
noncomputable def rounds {n : Nat} [NeZero n] (f : Fin n → EReal) : Nat → Fin n → EReal
  | 0 => f
  | r + 1 => strike (rounds f r) (pick (rounds f r))

/-- The greatest entry, folded from −∞, is the one at the first greatest position. -/
theorem fold_max_eq {n : Nat} [NeZero n] (g : Fin n → EReal) :
    (Finset.univ : Finset (Fin n)).fold max ⊥ g = g (pick g) := by
  have h := pick_spec g
  refine le_antisymm ?_ ?_
  · exact (Finset.fold_max_le _).mpr ⟨bot_le, fun q _ => h.le q⟩
  · exact (Finset.le_fold_max _).mpr (Or.inr ⟨_, Finset.mem_univ _, le_rfl⟩)

/-- The position taken in round `r`. -/
noncomputable def taken {n : Nat} [NeZero n] (f : Fin n → EReal) (r : Nat) : Fin n := pick (rounds f r)

variable {n : Nat} [NeZero n] (f : Fin n → EReal)

/-- After `r` rounds an entry is −∞ if it was taken in one of them, and unchanged if not. -/
theorem rounds_eq (r : Nat) (q : Fin n) :
    ((∃ i < r, taken f i = q) → rounds f r q = ⊥) ∧ ((∀ i < r, taken f i ≠ q) → rounds f r q = f q) := by
  induction r with
  | zero => exact ⟨fun ⟨i, hi, _⟩ => absurd hi (Nat.not_lt_zero i), fun _ => rfl⟩
  | succ r ih =>
    refine ⟨fun ⟨i, hi, hq⟩ => ?_, fun h => ?_⟩
    · show (if q = pick (rounds f r) then ⊥ else rounds f r q) = ⊥
      split
      · rfl
      · rename_i hne
        rcases Nat.lt_succ_iff_lt_or_eq.mp hi with hlt | rfl
        · exact ih.1 ⟨i, hlt, hq⟩
        · exact absurd hq.symm hne
    · show (if q = pick (rounds f r) then ⊥ else rounds f r q) = f q
      rw [if_neg fun e => h r (Nat.lt_succ_self r) e.symm]
      exact ih.2 fun i hi => h i (Nat.lt_succ_of_lt hi)

/-- While fewer than `n` rounds have been played some position is left. -/
theorem exists_left {r : Nat} (hr : r < n) : ∃ q, ∀ i < r, taken f i ≠ q := by
  classical
  by_contra hc
  push Not at hc
  have hsub : (Finset.univ : Finset (Fin n)) ⊆ (Finset.range r).image (taken f) := fun q _ => by
    obtain ⟨i, hi, e⟩ := hc q
    exact Finset.mem_image.mpr ⟨i, Finset.mem_range.mpr hi, e⟩
  have h1 := (Finset.card_le_card hsub).trans Finset.card_image_le
  rw [Finset.card_univ, Fintype.card_fin, Finset.card_range] at h1
  exact absurd h1 (Nat.not_le_of_lt hr)

variable (hf : ∀ q, f q ≠ ⊥)
include hf

/-- A round takes a position that no earlier round took. -/
theorem taken_fresh {r : Nat} (hr : r < n) : ∀ i < r, taken f i ≠ taken f r := by
  intro i hi e
  obtain ⟨q, hq⟩ := exists_left f hr
  have h1 : rounds f r (taken f r) = ⊥ := (rounds_eq f r _).1 ⟨i, hi, e⟩
  have h2 : rounds f r q = f q := (rounds_eq f r q).2 hq
  have h3 : rounds f r q ≤ rounds f r (taken f r) := (pick_spec (rounds f r)).le q
  rw [h1, h2, le_bot_iff] at h3
  exact hf q h3

/-- The entry a round takes is the row's own. -/
theorem rounds_taken {r : Nat} (hr : r < n) : rounds f r (taken f r) = f (taken f r) :=
  (rounds_eq f r _).2 (taken_fresh f hf hr)

/-- A position that no round up to `r` has taken before is not before the one round `r` takes. -/
theorem not_before {r : Nat} (hr : r < n) (q : Fin n) (hq : ∀ i < r, taken f i ≠ q) :
    greaterThenFirst f q (taken f r) = false := by
  have h := pick_spec (rounds f r)
  have e1 : rounds f r (pick (rounds f r)) = f (taken f r) := rounds_taken f hf hr
  have e2 : rounds f r q = f q := (rounds_eq f r q).2 hq
  have hle := h.le q
  have hfirst := h.first q
  rw [e1, e2] at hle hfirst
  unfold greaterThenFirst
  simp only [Bool.or_eq_false_iff, Bool.and_eq_false_iff, decide_eq_false_iff_not, not_lt]
  refine ⟨hle, ?_⟩
  by_cases hEq : f q = f (taken f r)
  · exact Or.inr (hfirst hEq)
  · exact Or.inl hEq

/-- THE SELECTION: where no entry is −∞, round `r` takes the position the stable descending sort puts at `r`. -/
theorem sortedFrom_eq_taken (r : Fin n) : sortedFrom (greater f) r = taken f r := by
  rw [sortedFrom_greater]
  have hinj : Function.Injective fun i : Fin n => taken f i := by
    intro i j hij
    rcases lt_trichotomy i.val j.val with h | h | h
    · exact absurd hij (taken_fresh f hf j.isLt i h)
    · exact Fin.ext h
    · exact absurd hij.symm (taken_fresh f hf i.isLt j h)
  have h := (strictTotal f).sortedFrom_eq_of_prefix (le_refl n) (fun i : Fin n => taken f i) hinj
    (fun i j hij => not_before f hf i.isLt _ fun k hk e => by
      have := taken_fresh f hf j.isLt k (hk.trans hij)
      exact this e)
    (fun i p hp => not_before f hf i.isLt p fun k hk => hp ⟨k, hk.trans i.isLt⟩) r
  exact h

omit hf in
/-- The first round takes a greatest entry of the row. -/
theorem le_taken_zero (q : Fin n) : f q ≤ f (taken f 0) := (pick_spec f).le q

end Cert.Select
-- ==== Proof.Spec.lean ====
/-
  What both programs compute, as plain functions of the two argument arrays: rows of scaled products, the columns the
  rounds of selection take, and the weights of the entries taken.
-/
module

public import proofs.«01_k».proof.Proof.Select
public import Idealize.ShloMosaic.Lib.Pointwise

@[expose] public section

noncomputable section

namespace Cert.Spec

open Idealize.ShloMosaic Cert.Select

/-- The shape of either argument. -/
abbrev SArg : Shape := ⟨3, ![1024, 256, 32]⟩
/-- The shape of either result. -/
abbrev SRes : Shape := ⟨3, ![1024, 256, 16]⟩

/-- The scale, 32 to the power −1/2 as the format rounds it. -/
def scale : EReal := Ideal.ofBits .f32 0x3E3504F3#32

variable (q k : SArg.Idx → EReal)

/-- Row `i` of batch `n` of the products of scaled queries with keys. -/
def logits (n : Fin 1024) (i : Fin 256) : Fin 256 → EReal :=
  fun j => ∑ d : Fin 32, q (ix3 n i d) * scale * k (ix3 n j d)

/-- The column words. -/
def columnAt (n : Fin 1024) (i : Fin 256) (r : Fin 16) : BitVec 32 :=
  BitVec.ofNat 32 (taken (logits q k n i) r.val).val

/-- The exponential of an entry's difference to the first entry taken. -/
def expAt (n : Fin 1024) (i : Fin 256) (r : Fin 16) : EReal :=
  Ideal.exp (logits q k n i (taken (logits q k n i) r.val) - logits q k n i (taken (logits q k n i) 0))

/-- The weights. -/
def weightAt (n : Fin 1024) (i : Fin 256) (r : Fin 16) : EReal :=
  Ideal.div (expAt q k n i r) (∑ r' : Fin 16, expAt q k n i r')

/-- The array of column words. -/
def columnArray : SRes.Idx → BitVec 32 := fun y => columnAt q k (y 0) (y 1) (y 2)

/-- The array of weights. -/
def weightArray : SRes.Idx → EReal := fun y => weightAt q k (y 0) (y 1) (y 2)

/-- The word of −∞ reads as −∞. -/
theorem ofBits_bot : Ideal.ofBits .f32 0xFF800000#32 = (⊥ : EReal) := by
  simp [Ideal.ofBits, Ideal.ieee]

/-- The scale is a real number. -/
theorem scale_real : ∃ a : ℝ, scale = (a : EReal) := by
  refine ⟨(1 : ℝ) * (2 ^ 23 + 3474675 : Nat) * (2 : ℝ) ^ ((124 : Int) - 127 - 23), ?_⟩
  simp [scale, Ideal.ofBits, Ideal.ieee]

/-- A finite sum of real numbers is a real number. -/
theorem sum_real {ι : Type} (s : Finset ι) (f : ι → EReal) (h : ∀ i, ∃ a : ℝ, f i = (a : EReal)) :
    ∃ a : ℝ, ∑ i ∈ s, f i = (a : EReal) := by
  classical
  induction s using Finset.induction_on with
  | empty => exact ⟨0, by simp⟩
  | insert i s hi ih =>
    obtain ⟨a, ha⟩ := ih
    obtain ⟨b, hb⟩ := h i
    exact ⟨b + a, by rw [Finset.sum_insert hi, ha, hb, EReal.coe_add]⟩

/-- Where the arguments are real numbers, so are the products: none is −∞. -/
theorem logits_ne_bot (hq : ∀ y, ∃ a : ℝ, q y = (a : EReal)) (hk : ∀ y, ∃ a : ℝ, k y = (a : EReal))
    (n : Fin 1024) (i j : Fin 256) : logits q k n i j ≠ ⊥ := by
  obtain ⟨a, ha⟩ := sum_real Finset.univ (fun d : Fin 32 => q (ix3 n i d) * scale * k (ix3 n j d)) fun d => by
    obtain ⟨x, hx⟩ := hq (ix3 n i d)
    obtain ⟨y, hy⟩ := hk (ix3 n j d)
    obtain ⟨s, hs⟩ := scale_real
    exact ⟨x * s * y, by rw [hx, hy, hs, EReal.coe_mul, EReal.coe_mul]⟩
  unfold logits
  rw [ha]
  exact EReal.coe_ne_bot a

end Cert.Spec
-- ==== Proof.Block.lean ====
/-
  What one block of the kernel computes, at the ideal instance: rounds of "greatest entry of the row, first column at
  which it stands, set that column to −∞", read at an index as the plain selection of `Select.lean`.
-/
module

public import proofs.«01_k».proof.Proof.Gen.KernelIdeal.Value
public import proofs.«01_k».proof.Proof.Spec
public import Idealize.ShloMosaic.Lib.Pointwise
public import Idealize.ShloMosaic.Lib.SortNet.Extract

@[expose] public section

set_option synthInstance.maxSize 4096

noncomputable section

namespace Cert.Block

open Idealize.ShloMosaic Cert.KernelIdeal Cert.KernelIdeal.Gen Cert.Select Cert.Spec

/-! ## The kernel's own terms, named -/

/-- The greatest entry of every row, as the kernel takes it. -/
def rowMax (x : FVec Ideal S4x256x256 .f32) : FVec Ideal S4x256x1 .f32 :=
  shapeCast S4x256x1 (multiReduction .maximumf [2] S4x256 x 0xFF800000#32 reduces_S4x256x256_S4x256 (.inl rfl) rfl)
    shapeCasts_S4x256_S4x256x1

/-- The column numbers. -/
def columns : IVec S4x256x256 32 := iota .tc S4x256x256 32 [2] iota_S4x256x256_d2_w32

/-- The first column at which every row is greatest, as the kernel takes it. -/
def rowArg (x : FVec Ideal S4x256x256 .f32) : IVec S4x256x1 32 :=
  shapeCast S4x256x1
    (multiReductionI .minsi [2] S4x256
      (select (cmpf .oeq x (broadcastTo S4x256x256 (rowMax x) broadcasts_S4x256x1_S4x256x256)) columns
        (broadcast S4x256x256 256#32)) 2147483647#32 reduces_S4x256x256_S4x256 rfl)
    shapeCasts_S4x256_S4x256x1

/-- Every row with that column set to −∞. -/
def strikeRows (x : FVec Ideal S4x256x256 .f32) : FVec Ideal S4x256x256 .f32 :=
  select (cmpi .eq columns (broadcastTo S4x256x256 (rowArg x) broadcasts_S4x256x1_S4x256x256))
    (broadcast S4x256x256 (Scalar.ofBits .f32 0xFF800000#32)) x

/-- The block after `r` rounds. -/
def played (x : FVec Ideal S4x256x256 .f32) : Nat → FVec Ideal S4x256x256 .f32
  | 0 => x
  | r + 1 => strikeRows (played x r)

/-- The block of scaled products the kernel selects from. -/
def products (x0 x1 : Vec Ideal S4x256x32 .f32) : FVec Ideal S4x256x256 .f32 :=
  k0_pay11 (k0_pay58 x0 x1) (k0_pay59 x0 x1) (k0_pay60 x0 x1) (k0_pay61 x0 x1) (View.ld x1 r0_3)

/-- Sixteen columns side by side make up the block of results. -/
theorem columns_fit {α : Type} (f : Fin 16 → (S4x256x1.Idx → α)) : Shape.Concatenates
    ((List.ofFn fun r : Fin 16 => (⟨S4x256x1, f r⟩ : (s : Shape) × (s.Idx → α))).map (·.1)) S4x256x16 2 :=
  concatenates_S4x256x1_S4x256x1_S4x256x1_S4x256x1_S4x256x1_S4x256x1_S4x256x1_S4x256x1_S4x256x1_S4x256x1_S4x256x1_S4x256x1_S4x256x1_S4x256x1_S4x256x1_S4x256x1_S4x256x16_d2

/-- Sixteen columns side by side. -/
def beside {α : Type} (f : Fin 16 → (S4x256x1.Idx → α)) : S4x256x16.Idx → α :=
  concatenate S4x256x16 2 (List.ofFn fun r : Fin 16 => (⟨S4x256x1, f r⟩ : (s : Shape) × (s.Idx → α))) (columns_fit f)

/-- The selected entries of a block. -/
def values (x : FVec Ideal S4x256x256 .f32) : FVec Ideal S4x256x16 .f32 := beside fun r => rowMax (played x r.val)

/-- The selected columns of a block. -/
def indices (x : FVec Ideal S4x256x256 .f32) : IVec S4x256x16 32 := beside fun r => rowArg (played x r.val)

/-- The kernel's weights from the selected entries: exponentials of the differences to the first, over their sum. -/
def weights (v : FVec Ideal S4x256x16 .f32) : FVec Ideal S4x256x16 .f32 :=
  divf (exp (subf v (broadcastTo S4x256x16 (extractStridedSlice S4x256x1 ![0, 0, 0] v slices_S4x256x16_o0_0_0_S4x256x1)
      broadcasts_S4x256x1_S4x256x16)))
    (broadcastTo S4x256x16 (shapeCast S4x256x1 (multiReduction .add [2] S4x256
      (exp (subf v (broadcastTo S4x256x16 (extractStridedSlice S4x256x1 ![0, 0, 0] v slices_S4x256x16_o0_0_0_S4x256x1)
        broadcasts_S4x256x1_S4x256x16))) 0x00000000#32 reduces_S4x256x16_S4x256 (.inl rfl) rfl)
      shapeCasts_S4x256_S4x256x1) broadcasts_S4x256x1_S4x256x16)

set_option maxRecDepth 20000 in
/-- The block of results the kernel leaves in its second output is the selected columns of its products. -/
theorem out_indices (x0 x1 : Vec Ideal S4x256x32 .f32) : out0_3 x0 x1 = indices (products x0 x1) := by
  refine Eq.trans (b := View.canon [⟨r0_4, indices (products x0 x1)⟩]) rfl ?_
  exact View.canon_unit_zero (by funext a; fin_cases a <;> rfl) _ _

set_option maxRecDepth 20000 in
/-- The block of results the kernel leaves in its first output is the weights of its products' selected entries. -/
theorem out_weights (x0 x1 : Vec Ideal S4x256x32 .f32) : out0_2 x0 x1 = weights (values (products x0 x1)) := by
  refine Eq.trans (b := View.canon [⟨r0_4, weights (values (products x0 x1))⟩]) rfl ?_
  exact View.canon_unit_zero (by funext a; fin_cases a <;> rfl) _ _

/-! ## Read at an index -/

/-- Row `i` of batch `b` of a block. -/
def row (x : FVec Ideal S4x256x256 .f32) (b : Fin 4) (i : Fin 256) : Fin 256 → EReal := fun k => x (ix3 b i k)

/-- A small number's word, read as a signed integer. -/
theorem toInt_small {k : Nat} (hk : k ≤ 256) : (BitVec.ofNat 32 k).toInt = (k : Int) := by
  rw [BitVec.toInt_eq_toNat_of_lt] <;> simp <;> omega

/-- The least column at which a row stands at its greatest entry, folded over words, is the first greatest position. -/
theorem fold_min_eq (g : Fin 256 → EReal) :
    (Finset.univ : Finset (Fin 256)).fold IntOp.minsi (2147483647#32)
      (fun k => if g k = g (pick g) then BitVec.ofNat 32 k.val else 256#32) = BitVec.ofNat 32 (pick g).val := by
  have h := pick_spec g
  have hv : ∀ k : Fin 256, (if g k = g (pick g) then BitVec.ofNat 32 k.val else 256#32).toInt
      = if g k = g (pick g) then (k.val : Int) else 256 := fun k => by
    split
    · exact toInt_small k.isLt.le
    · rfl
  refine BitVec.eq_of_toInt_eq ?_
  rw [← Finset.fold_hom (op' := min) (m := BitVec.toInt) SortNet.toInt_minsi, toInt_small (pick g).isLt.le]
  refine le_antisymm ?_ ?_
  · refine (Finset.fold_min_le _).mpr (Or.inr ⟨pick g, Finset.mem_univ _, ?_⟩)
    rw [hv, if_pos rfl]
  · refine (Finset.le_fold_min _).mpr ⟨?_, fun k _ => ?_⟩
    · have := (pick g).isLt
      show ((pick g).val : Int) ≤ 2147483647
      omega
    · rw [hv]
      split
      · rename_i e
        exact_mod_cast h.first k e
      · have := (pick g).isLt
        omega

variable (x : FVec Ideal S4x256x256 .f32) (b : Fin 4) (i : Fin 256)

/-- The row maximum at an index. -/
theorem rowMax_apply : rowMax x (ix3 b i 0) = row x b i (pick (row x b i)) := by
  unfold rowMax
  simp only [pointwise]
  rw [ofBits_bot]
  exact fold_max_eq (row x b i)

/-- The column word at an index. -/
theorem columns_apply (k : Fin 256) : columns (ix3 b i k) = BitVec.ofNat 32 k.val := by
  unfold columns
  simp only [pointwise]
  simp

/-- The first greatest column at an index. -/
theorem rowArg_apply : rowArg x (ix3 b i 0) = BitVec.ofNat 32 (pick (row x b i)).val := by
  rw [← fold_min_eq (row x b i)]
  unfold rowArg
  simp only [pointwise]
  refine congrArg (fun f => Finset.fold IntOp.minsi (2147483647#32) f Finset.univ) (funext fun k => ?_)
  rw [columns_apply]
  show (if x (ix3 b i k) = rowMax x (ix3 b i 0) then BitVec.ofNat 32 k.val else 256#32) = _
  rw [rowMax_apply]
  rfl

/-- The struck row. -/
theorem row_strikeRows : row (strikeRows x) b i = strike (row x b i) (pick (row x b i)) := by
  funext k
  show strikeRows x (ix3 b i k) = if k = pick (row x b i) then ⊥ else x (ix3 b i k)
  unfold strikeRows
  simp only [pointwise]
  rw [columns_apply, ofBits_bot]
  show Scalar.select (IntOp.cmpi .eq (BitVec.ofNat 32 k.val) (rowArg x (ix3 b i 0))) (⊥ : EReal) (x (ix3 b i k)) = _
  rw [rowArg_apply]
  by_cases e : k = pick (row x b i)
  · rw [if_pos e, ← e]
    simp [Scalar.select, IntOp.cmpi]
  · have hne : BitVec.ofNat 32 k.val ≠ BitVec.ofNat 32 (pick (row x b i)).val := fun hb => e (Fin.ext (by
      have hb' := congrArg BitVec.toInt hb
      rw [toInt_small k.isLt.le, toInt_small (pick (row x b i)).isLt.le] at hb'
      exact_mod_cast hb'))
    rw [if_neg e]
    have h0 : (BitVec.ofNat 32 k.val == BitVec.ofNat 32 (pick (row x b i)).val) = false := beq_eq_false_iff_ne.mpr hne
    simp [Scalar.select, IntOp.cmpi, h0]

/-- The row after `r` rounds. -/
theorem row_played (r : Nat) : row (played x r) b i = rounds (row x b i) r := by
  induction r with
  | zero => rfl
  | succ r ih =>
    show row (strikeRows (played x r)) b i = strike (rounds (row x b i) r) (pick (rounds (row x b i) r))
    rw [row_strikeRows, ih]

/-- Columns side by side, at an index. -/
theorem beside_apply {α : Type} (f : Fin 16 → (S4x256x1.Idx → α)) (r : Fin 16) :
    beside f (ix3 b i r) = f r (ix3 b i 0) := by
  unfold beside
  refine concatenate_ofFn_unit_apply (2 : Fin S4x256x16.rank) f _ rfl rfl (ix3 b i r : S4x256x16.Idx) r rfl (ix3 b i 0 : S4x256x1.Idx) fun c hc => ?_
  fin_cases c
  · rfl
  · rfl
  · exact absurd rfl hc

/-- The selected column at an index. -/
theorem indices_apply (r : Fin 16) :
    indices x (ix3 b i r) = BitVec.ofNat 32 (taken (row x b i) r.val).val := by
  unfold indices
  rw [beside_apply, rowArg_apply, row_played]
  rfl

/-- The selected entry at an index, where no entry of the row is −∞. -/
theorem values_apply (h : ∀ q, row x b i q ≠ ⊥) (r : Fin 16) :
    values x (ix3 b i r) = row x b i (taken (row x b i) r.val) := by
  unfold values
  rw [beside_apply, rowMax_apply, row_played]
  exact rounds_taken _ h (r.isLt.trans (by omega))

/-- The weights at an index. -/
theorem weights_apply (v : FVec Ideal S4x256x16 .f32) (r : Fin 16) :
    weights v (ix3 b i r) = Ideal.div (Ideal.exp (v (ix3 b i r) - v (ix3 b i 0)))
      (∑ k : Fin 16, Ideal.exp (v (ix3 b i k) - v (ix3 b i 0))) := by
  unfold weights
  simp only [pointwise]
  have e : ∀ h h', (ix3 (n0 := 4) (n1 := 256) (n2 := 16) ⟨![0, 0, 0] 0 + b.val, h⟩ ⟨![0, 0, 0] 1 + i.val, h'⟩ 0) = ix3 b i 0 := fun h h' => by
    rw [ix3_inj]
    exact ⟨Fin.ext (Nat.zero_add _), Fin.ext (Nat.zero_add _), rfl⟩
  refine congrArg₂ Ideal.div (congrArg Ideal.exp (congrArg (v (ix3 b i r) - ·) (congrArg v (e _ _)))) ?_
  exact Finset.sum_congr rfl fun k _ =>
    congrArg Ideal.exp (congrArg (v (ix3 b i k) - ·) (congrArg v (e _ _)))

/-- The products at an index. -/
theorem products_apply (x0 x1 : Vec Ideal S4x256x32 .f32) (j : Fin 256) :
    products x0 x1 (ix3 b i j)
      = ∑ k : Fin 32, x0 (ix3 b i k) * Ideal.ofBits .f32 0x3E3504F3#32 * x1 (ix3 b j k) := by
  unfold products k0_pay11 k0_pay58 k0_pay59 k0_pay60 k0_pay61 k0_pay7 k0_pay8 k0_pay9 k0_pay10
  simp only [pointwise]
  rcases b with ⟨b, hb⟩
  interval_cases b
  all_goals
    refine (zero_add _).trans (Finset.sum_congr rfl fun k _ => ?_)
    refine congrArg₂ (· * ·) (congrArg (· * _) (congrArg x0 ?_)) (congrArg x1 ?_)
    · rw [ix3_inj]
      exact ⟨rfl, Fin.ext (by simp), Fin.ext (by simp)⟩
    · rw [ix3_inj]
      exact ⟨rfl, Fin.ext (by simp), Fin.ext (by simp)⟩

end Cert.Block
-- ==== Proof.Array.lean ====
/-
  What the kernel's two result arrays hold at the end of the run: the blocks of the grid points, put together.
-/
module

public import proofs.«01_k».proof.Proof.Block
public import proofs.«01_k».proof.Proof.Spec

@[expose] public section

set_option synthInstance.maxSize 4096

noncomputable section

namespace Cert.Array

open Idealize.ShloMosaic Idealize.ShloMosaic.TcCoe Idealize.SL.Sem Cert.KernelIdeal Cert.KernelIdeal.Gen Cert.Select Cert.Spec
open Idealize.ShloMosaic.Pipeline (Dat)

variable (m : (ℓ : Loc nD τ sig) → Buf (Elt Ideal) ℓ) (c : Dev nD)

/-- The query array of device `c` at launch. -/
abbrev query : SArg.Idx → EReal := m ((c.tc : Thread nD τ).loc main_arg0)
/-- The key array of device `c` at launch. -/
abbrev key : SArg.Idx → EReal := m ((c.tc : Thread nD τ).loc main_arg1)

/-- The batch that row `b` of point `t`'s block is. -/
def batch (t : Fin cfg0.N) (b : Fin 4) : Fin 1024 := ⟨t.val * 4 + b.val, by have := t.isLt; have hN : cfg0.N = 256 := N_0; omega⟩

/-- The block indices of the query's window. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- The block indices of the key's window. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
/-- The block indices of the weights' window. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
/-- The block indices of the columns' window. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The query's block at point `t`, at an index. -/
theorem iblk0_apply (t : Fin cfg0.N) (b : Fin 4) (i : Fin 256) (d : Fin 32) :
    iblk m c 0 t (ix3 b i d) = query m c (ix3 (batch t b) i d) := by
  unfold iblk
  rw [View.read_apply]
  show query m c ((win0_0.rect t).emb (ix3 b i d)) = _
  refine congrArg (query m c) (funext fun a => Fin.ext ?_)
  rw [win0_0.rect_emb_val t _ a]
  obtain ⟨e0, e1, e2⟩ := index0 t
  match a with
  | ⟨0, _⟩ => exact congrArg (· * 4 + b.val) e0
  | ⟨1, _⟩ => exact (congrArg (· * 256 + i.val) e1).trans (by simp)
  | ⟨2, _⟩ => exact (congrArg (· * 32 + d.val) e2).trans (by simp)

/-- The key's block at point `t`, at an index. -/
theorem iblk1_apply (t : Fin cfg0.N) (b : Fin 4) (i : Fin 256) (d : Fin 32) :
    iblk m c 1 t (ix3 b i d) = key m c (ix3 (batch t b) i d) := by
  unfold iblk
  rw [View.read_apply]
  show key m c ((win0_1.rect t).emb (ix3 b i d)) = _
  refine congrArg (key m c) (funext fun a => Fin.ext ?_)
  rw [win0_1.rect_emb_val t _ a]
  obtain ⟨e0, e1, e2⟩ := index1 t
  match a with
  | ⟨0, _⟩ => exact congrArg (· * 4 + b.val) e0
  | ⟨1, _⟩ => exact (congrArg (· * 256 + i.val) e1).trans (by simp)
  | ⟨2, _⟩ => exact (congrArg (· * 32 + d.val) e2).trans (by simp)

/-- A row of the products of point `t`'s blocks is a row of the products of the arrays. -/
theorem row_products (t : Fin cfg0.N) (b : Fin 4) (i : Fin 256) :
    Block.row (Block.products (iblk m c 0 t) (iblk m c 1 t)) b i = logits (query m c) (key m c) (batch t b) i := by
  funext j
  show Block.products (iblk m c 0 t) (iblk m c 1 t) (ix3 b i j) = _
  rw [Block.products_apply]
  exact Finset.sum_congr rfl fun d _ => by rw [iblk0_apply, iblk1_apply]; rfl

/-- Where an element of the weights' block sits in the array. -/
theorem emb2 (t : Fin cfg0.N) (b : Fin 4) (i : Fin 256) (r : Fin 16) :
    ((win0_2.rect t).emb (ix3 b i r) : SRes.Idx) = ix3 (batch t b) i r := by
  funext a
  refine Fin.ext ?_
  refine (win0_2.rect_emb_val t (ix3 b i r) a).trans ?_
  obtain ⟨e0, e1, e2⟩ := index2 t
  match a with
  | ⟨0, _⟩ => exact congrArg (· * 4 + b.val) e0
  | ⟨1, _⟩ => exact (congrArg (· * 256 + i.val) e1).trans (by simp)
  | ⟨2, _⟩ => exact (congrArg (· * 16 + r.val) e2).trans (by simp)

/-- Where an element of the columns' block sits in the array. -/
theorem emb3 (t : Fin cfg0.N) (b : Fin 4) (i : Fin 256) (r : Fin 16) :
    ((win0_3.rect t).emb (ix3 b i r) : SRes.Idx) = ix3 (batch t b) i r := by
  funext a
  refine Fin.ext ?_
  refine (win0_3.rect_emb_val t (ix3 b i r) a).trans ?_
  obtain ⟨e0, e1, e2⟩ := index3 t
  match a with
  | ⟨0, _⟩ => exact congrArg (· * 4 + b.val) e0
  | ⟨1, _⟩ => exact (congrArg (· * 256 + i.val) e1).trans (by simp)
  | ⟨2, _⟩ => exact (congrArg (· * 16 + r.val) e2).trans (by simp)

/-- An index of a result array is an element of some point's block. -/
theorem in_block (y : SRes.Idx) : ∃ (t : Fin cfg0.N) (b : Fin 4), y = ix3 (batch t b) (y 1) (y 2) := by
  have h0 : (y 0).val < 1024 := (y 0).isLt
  have hN : cfg0.N = 256 := N_0
  refine ⟨⟨(y 0).val / 4, by omega⟩, ⟨(y 0).val % 4, by omega⟩, ?_⟩
  refine (eq_ix3 y).trans (congrArg (fun n : Fin 1024 => (ix3 n (y 1) (y 2) : SRes.Idx)) (Fin.ext ?_))
  show (y 0).val = (y 0).val / 4 * 4 + (y 0).val % 4
  omega

/-- The blocks of the weights cover their array. -/
theorem cover2 (y : SRes.Idx) : ∃ t : Fin cfg0.N, (cfg0.win 2).flush t = true ∧ y ∈ ((cfg0.win 2).blk t).view.set := by
  obtain ⟨t, b, e⟩ := in_block y
  refine ⟨t, flush0_2 t, ?_⟩
  have h := ((cfg0.win 2).blk t).view.emb_mem_set (ix3 b (y 1) (y 2))
  rw [e]
  exact emb2 t b (y 1) (y 2) ▸ h

/-- The blocks of the columns cover their array. -/
theorem cover3 (y : SRes.Idx) : ∃ t : Fin cfg0.N, (cfg0.win 3).flush t = true ∧ y ∈ ((cfg0.win 3).blk t).view.set := by
  obtain ⟨t, b, e⟩ := in_block y
  refine ⟨t, flush0_3 t, ?_⟩
  have h := ((cfg0.win 3).blk t).view.emb_mem_set (ix3 b (y 1) (y 2))
  rw [e]
  exact emb3 t b (y 1) (y 2) ▸ h

/-- The kernel's second result array holds the columns of the selection. -/
theorem columns_final : (dats m 0 c).arrAt 3 cfg0.N = columnArray (query m c) (key m c) := by
  refine (dats m 0 c).arrAt_eq_of_cover 3 (columnArray (query m c) (key m c)) (fun t _ => ?_) cover3
  rw [Value.flushed3, Block.out_indices]
  funext y
  obtain ⟨b, i, r, rfl⟩ : ∃ (b : Fin 4) (i : Fin 256) (r : Fin 16), y = ix3 b i r := ⟨y 0, y 1, y 2, eq_ix3 y⟩
  rw [View.read_apply]
  show Block.indices (Block.products (iblk m c 0 t) (iblk m c 1 t)) (ix3 b i r)
    = columnArray (query m c) (key m c) ((win0_3.rect t).emb (ix3 b i r))
  rw [emb3, Block.indices_apply, row_products]
  rfl

/-- The kernel's first result array holds the weights of the selection, where no product is −∞. -/
theorem weights_final (h : ∀ n i j, logits (query m c) (key m c) n i j ≠ ⊥) :
    (dats m 0 c).arrAt 2 cfg0.N = weightArray (query m c) (key m c) := by
  refine (dats m 0 c).arrAt_eq_of_cover 2 (weightArray (query m c) (key m c)) (fun t _ => ?_) cover2
  rw [Value.flushed2, Block.out_weights]
  funext y
  obtain ⟨b, i, r, rfl⟩ : ∃ (b : Fin 4) (i : Fin 256) (r : Fin 16), y = ix3 b i r := ⟨y 0, y 1, y 2, eq_ix3 y⟩
  rw [View.read_apply]
  show Block.weights (Block.values (Block.products (iblk m c 0 t) (iblk m c 1 t))) (ix3 b i r)
    = weightArray (query m c) (key m c) ((win0_2.rect t).emb (ix3 b i r))
  have hv : ∀ r' : Fin 16, Block.values (Block.products (iblk m c 0 t) (iblk m c 1 t)) (ix3 b i r')
      = logits (query m c) (key m c) (batch t b) i (taken (logits (query m c) (key m c) (batch t b) i) r'.val) := fun r' => by
    rw [Block.values_apply _ _ _ (by rw [row_products]; exact h _ _), row_products]
  rw [emb2, Block.weights_apply]
  simp only [hv]
  rfl

end Cert.Array
-- ==== Proof.Reference.lean ====
/-
  What the reference computes: its products are the rows of `Spec.lean`, its stable sort takes the columns that the rounds
  of selection take, and its quotient of exponentials is the weight.
-/
module

public import proofs.«01_k».proof.Proof.Gen.ReferenceIdeal.Run
public import proofs.«01_k».proof.Proof.Spec
public import Idealize.ShloMosaic.Lib.Pointwise

@[expose] public section

set_option synthInstance.maxSize 4096

noncomputable section

namespace Cert.Reference

open Idealize.ShloMosaic Cert.ReferenceIdeal Cert.ReferenceIdeal.Gen Cert.Select Cert.Spec

/-- The scaled products, as the reference takes them. -/
def products (q k : FVec Ideal S1024x256x32 .f32) : FVec Ideal S1024x256x256 .f32 :=
  Host.dotGeneral dot_S1024x256x32_S1024x32x256_S1024x256x256_2_1_1_2_0_0 none
    (mulf q (broadcastInDim S1024x256x32 ![] bcast_S_S1024x256x32 (constant S_ .f32 0x3E3504F3#32)))
    (transpose S1024x32x256 [0, 2, 1] k transposes_S1024x256x32_S1024x32x256_0_2_1)

/-- The sixteen greatest of every row, with their columns. -/
def greatest (x : FVec Ideal S1024x256x256 .f32) : FVec Ideal S1024x256x16 .f32 × IVec S1024x256x16 32 :=
  Host.topK S1024x256x16 2 (FloatOps.cmpfTotal .gt) x sliceFits_S1024x256x256_S1024x256x16

/-- Every row's greatest, from −∞. -/
def rowMax (v : FVec Ideal S1024x256x16 .f32) : FVec Ideal S1024x256 .f32 :=
  maximumf (broadcastInDim S1024x256 ![] bcast_S_S1024x256 (constant S_ .f32 0xFF800000#32))
    (Host.reduce FloatOps.maximumf v (constant S_ .f32 0xFF800000#32) reducesTo_S1024x256x16_S1024x256_d2 h_S_)

/-- The exponentials of the differences to every row's greatest. -/
def exps (v : FVec Ideal S1024x256x16 .f32) : FVec Ideal S1024x256x16 .f32 :=
  Host.exp (subf v (broadcastInDim S1024x256x16 ![0, 1, 2] bcast_S1024x256x1_S1024x256x16_0_1_2
    (broadcastInDim S1024x256x1 ![0, 1] bcast_S1024x256_S1024x256x1_0_1 (rowMax v))))

/-- The quotients of the exponentials by their row's sum. -/
def quotients (e : FVec Ideal S1024x256x16 .f32) : FVec Ideal S1024x256x16 .f32 :=
  Host.divf e (broadcastInDim S1024x256x16 ![0, 1, 2] bcast_S1024x256x1_S1024x256x16_0_1_2
    (broadcastInDim S1024x256x1 ![0, 1] bcast_S1024x256_S1024x256x1_0_1
      (Host.reduceAdd e (constant S_ .f32 0x00000000#32) reducesTo_S1024x256x16_S1024x256_d2 h_S_)))

/-- The reference's products are the rows of products. -/
theorem products_apply (q k : FVec Ideal S1024x256x32 .f32) (n : Fin 1024) (i j : Fin 256) :
    products q k (ix3 n i j) = logits q k n i j := by
  unfold products
  simp only [pointwise]
  rw [zero_add]
  rfl

/-- The column that a row's stable sort puts at place `r`. -/
def place (x : FVec Ideal S1024x256x256 .f32) (n : Fin 1024) (i : Fin 256) (r : Fin 16) : Fin 256 :=
  taken (fun j => (x (ix3 n i j) : EReal)) r.val

/-- Moving along the last axis replaces the last coordinate. -/
theorem along_last (n : Fin 1024) (i j c : Fin 256) :
    (ix3 n i j : S1024x256x256.Idx).along 2 c = ix3 n i c := by
  funext a
  match a with
  | ⟨0, _⟩ => rfl
  | ⟨1, _⟩ => rfl
  | ⟨2, _⟩ => rfl

/-- The comparator of the reference's sort, along a row, is "greater". -/
theorem order_eq (x : FVec Ideal S1024x256x256 .f32) (n : Fin 1024) (i j : Fin 256) :
    (fun c c' : Fin 256 => FloatOps.cmpfTotal (F := Ideal) .gt (x ((ix3 n i j : S1024x256x256.Idx).along 2 c))
      (x ((ix3 n i j : S1024x256x256.Idx).along 2 c')) == 1#1) = greater fun j => (x (ix3 n i j) : EReal) := by
  funext c c'
  rw [along_last, along_last]
  show (BitVec.ofBool (decide ((x (ix3 n i c') : EReal) < x (ix3 n i c))) == 1#1) = decide ((x (ix3 n i c') : EReal) < x (ix3 n i c))
  cases decide ((x (ix3 n i c') : EReal) < x (ix3 n i c)) <;> rfl

/-- The place of the result in the sorted array. -/
theorem slice_index (n : Fin 1024) (i : Fin 256) (r : Fin 16) (h0 h1 h2) :
    (ix3 (n0 := 1024) (n1 := 256) (n2 := 256) ⟨0 + n.val, h0⟩ ⟨0 + i.val, h1⟩ ⟨0 + r.val, h2⟩)
      = ix3 n i ⟨r.val, by omega⟩ := by
  rw [ix3_inj]
  exact ⟨Fin.ext (Nat.zero_add _), Fin.ext (Nat.zero_add _), Fin.ext (Nat.zero_add _)⟩

/-- The reference's sort takes, at place `r`, the column that round `r` of the selection takes, and the entry there. -/
theorem greatest_apply (x : FVec Ideal S1024x256x256 .f32) (n : Fin 1024) (i : Fin 256) (r : Fin 16)
    (h : ∀ j, x (ix3 n i j) ≠ (⊥ : EReal)) :
    (greatest x).1 (ix3 n i r) = x (ix3 n i (place x n i r))
      ∧ (greatest x).2 (ix3 n i r) = BitVec.ofNat 32 (place x n i r).val := by
  have hr : r.val < 256 := by omega
  have hs : ∀ h0, sortedFrom (fun c c' : Fin 256 => FloatOps.cmpfTotal (F := Ideal) .gt
      (x ((ix3 n i ⟨r.val, hr⟩ : S1024x256x256.Idx).along 2 c))
      (x ((ix3 n i ⟨r.val, hr⟩ : S1024x256x256.Idx).along 2 c')) == 1#1) ⟨0 + r.val, h0⟩ = place x n i r := fun h0 => by
    rw [order_eq]
    exact (congrArg (sortedFrom _) (Fin.ext (Nat.zero_add _))).trans
      (sortedFrom_eq_taken (fun j => (x (ix3 n i j) : EReal)) h ⟨r.val, hr⟩)
  unfold greatest Host.topK Host.sort2
  simp only [dif_pos (show 2 < S1024x256x256.rank by decide)]
  simp only [pointwise]
  rw [slice_index]
  refine ⟨?_, ?_⟩
  · exact (congrArg (fun c : Fin 256 => x ((ix3 n i ⟨r.val, hr⟩ : S1024x256x256.Idx).along 2 c)) (hs (by omega))).trans
      (congrArg x (along_last n i ⟨r.val, hr⟩ (place x n i r)))
  · exact (congrArg (fun c : Fin 256 => BitVec.ofNat 32 ((ix3 n i ⟨r.val, hr⟩ : S1024x256x256.Idx).along 2 c 2).val)
      (hs (by omega))).trans
      (congrArg (fun y : S1024x256x256.Idx => BitVec.ofNat 32 (y 2).val) (along_last n i ⟨r.val, hr⟩ (place x n i r)))

/-- The greatest of a row whose first entry is greatest is that first entry. -/
theorem fold_max_first (v : Fin 16 → EReal) (h : ∀ r, v r ≤ v 0) :
    max ⊥ ((Finset.univ : Finset (Fin 16)).fold max ⊥ v) = v 0 := by
  rw [max_eq_right bot_le]
  exact (fold_max_eq v).trans (le_antisymm (h _) ((pick_spec v).le 0))

/-- A row's greatest at an index. -/
theorem rowMax_apply (v : FVec Ideal S1024x256x16 .f32) (n : Fin 1024) (i : Fin 256) :
    rowMax v (ix2 n i) = max (Ideal.ofBits .f32 0xFF800000#32)
      ((Finset.univ : Finset (Fin 16)).fold max (Ideal.ofBits .f32 0xFF800000#32) fun r => (v (ix3 n i r) : EReal)) := by
  have hf : Host.reduce FloatOps.maximumf v (constant S_ .f32 0xFF800000#32) reducesTo_S1024x256x16_S1024x256_d2 h_S_ (ix2 n i)
      = (Finset.univ : Finset (Fin 16)).fold max (Ideal.ofBits .f32 0xFF800000#32) fun r => (v (ix3 n i r) : EReal) := by
    simp only [pointwise]
  have hm : ∀ (x y : FVec Ideal S1024x256 .f32), maximumf x y (ix2 n i) = max (x (ix2 n i) : EReal) (y (ix2 n i)) := fun _ _ => rfl
  have hb : broadcastInDim S1024x256 ![] bcast_S_S1024x256 (constant (F := Ideal) S_ .f32 0xFF800000#32) (ix2 n i)
      = Ideal.ofBits .f32 0xFF800000#32 := rfl
  unfold rowMax
  rw [hm, hf, hb]

/-- The exponentials at an index, before the maximum is read. -/
theorem exps_open (v : FVec Ideal S1024x256x16 .f32) (n : Fin 1024) (i : Fin 256) (r : Fin 16) :
    exps v (ix3 n i r) = Ideal.exp (v (ix3 n i r) - rowMax v (ix2 n i)) := by
  unfold exps
  simp only [pointwise, Nat.reduceEqDiff, ↓reduceDIte]

/-- The exponentials at an index, where the row's first entry is its greatest. -/
theorem exps_apply (v : FVec Ideal S1024x256x16 .f32) (n : Fin 1024) (i : Fin 256) (r : Fin 16)
    (h : ∀ r', (v (ix3 n i r') : EReal) ≤ v (ix3 n i 0)) :
    exps v (ix3 n i r) = Ideal.exp (v (ix3 n i r) - v (ix3 n i 0)) := by
  rw [exps_open, rowMax_apply, ofBits_bot, fold_max_first _ h]

/-- The quotients at an index. -/
theorem quotients_apply (e : FVec Ideal S1024x256x16 .f32) (n : Fin 1024) (i : Fin 256) (r : Fin 16) :
    quotients e (ix3 n i r) = Ideal.div (e (ix3 n i r)) (∑ r' : Fin 16, (e (ix3 n i r') : EReal)) := by
  unfold quotients
  simp only [pointwise]
  simp only [Nat.reduceEqDiff, ↓reduceDIte]
  rw [zero_add]

variable (q k : FVec Ideal S1024x256x32 .f32)

/-- The reference's second result: the columns of the selection. -/
theorem columns_eq (h : ∀ n i j, logits q k n i j ≠ ⊥) : (greatest (products q k)).2 = columnArray q k := by
  funext y
  obtain ⟨n, i, r, rfl⟩ : ∃ (n : Fin 1024) (i : Fin 256) (r : Fin 16), y = ix3 n i r := ⟨y 0, y 1, y 2, eq_ix3 y⟩
  have e : (fun j => (products q k (ix3 n i j) : EReal)) = logits q k n i := funext fun j => products_apply q k n i j
  rw [(greatest_apply (products q k) n i r fun j => by rw [products_apply]; exact h n i j).2]
  unfold place
  rw [e]
  rfl

/-- The reference's greatest entries at an index. -/
theorem values_eq (h : ∀ n i j, logits q k n i j ≠ ⊥) (n : Fin 1024) (i : Fin 256) (r : Fin 16) :
    (greatest (products q k)).1 (ix3 n i r) = logits q k n i (taken (logits q k n i) r.val) := by
  have e : (fun j => (products q k (ix3 n i j) : EReal)) = logits q k n i := funext fun j => products_apply q k n i j
  rw [(greatest_apply (products q k) n i r fun j => by rw [products_apply]; exact h n i j).1, products_apply]
  unfold place
  rw [e]

/-- The reference's first result: the weights of the selection. -/
theorem weights_eq (h : ∀ n i j, logits q k n i j ≠ ⊥) :
    quotients (exps (greatest (products q k)).1) = weightArray q k := by
  funext y
  obtain ⟨n, i, r, rfl⟩ : ∃ (n : Fin 1024) (i : Fin 256) (r : Fin 16), y = ix3 n i r := ⟨y 0, y 1, y 2, eq_ix3 y⟩
  have he : ∀ r', exps (greatest (products q k)).1 (ix3 n i r') = expAt q k n i r' := fun r' => by
    rw [exps_apply _ n i r' fun r'' => by
      rw [values_eq q k h, values_eq q k h]
      exact le_taken_zero _ _, values_eq q k h, values_eq q k h]
    rfl
  rw [quotients_apply]
  simp only [he]
  rfl

end Cert.Reference
-- ==== Proof.Finite.lean ====
/-
  The precondition read back: where it holds, every entry of both arguments is a real number.
-/
module

public import proofs.«01_k».proof.Pre_finite
public import proofs.«01_k».proof.Proof.Spec
public import Idealize.ShloMosaic.Lib.ReduceAll

@[expose] public section

noncomputable section

namespace Cert.Finite

open Idealize.ShloMosaic Cert.Spec Cert.Pre_finite

/-- The predicate's side conditions. -/
instance facts : Cert.Pre_finite.Facts where
  bcast_S_S1024x256x32 := by decide
  reducesTo_S1024x256x32_S_d0_1_2 := by decide
  h_S_ := by decide

/-- The word of +∞ reads as +∞. -/
theorem ofBits_top : Ideal.ofBits .f32 0x7F800000#32 = (⊤ : EReal) := by
  simp [Ideal.ofBits, Ideal.ieee]

/-- A value whose magnitude is below +∞ is a real number. -/
theorem real_of_abs_lt (x : EReal) (h : max x (-x) < ⊤) : ∃ a : ℝ, x = (a : EReal) := by
  have h1 : x ≠ ⊤ := fun e => by rw [e] at h; simp at h
  have h2 : x ≠ ⊥ := fun e => by rw [e] at h; simp at h
  exact ⟨x.toReal, (EReal.coe_toReal h1 h2).symm⟩

/-- One argument's half of the predicate. -/
theorem real_of_all (x : FVec Ideal S1024x256x32 .f32) (j : S_.Idx)
    (h : Host.reduce IntOp.andi (cmpf .olt (Host.absf x)
      (broadcastInDim S1024x256x32 ![] Facts.bcast_S_S1024x256x32 (constant S_ .f32 0x7F800000#32))) (constantI S_ 1 1#1)
      Facts.reducesTo_S1024x256x32_S_d0_1_2 Facts.h_S_ j = 1#1) (y : SArg.Idx) :
    ∃ a : ℝ, (x y : EReal) = (a : EReal) := by
  have : Subsingleton S_.Idx := ⟨fun a b => funext fun i => i.elim0⟩
  have e := Host.reduce_andi_all _ _ _ _ j h y
  simp only [pointwise] at e
  rw [ofBits_top] at e
  refine real_of_abs_lt _ ?_
  by_contra hn
  have hd : decide (max (x y : EReal) (-x y) < ⊤) = false := decide_eq_false hn
  exact absurd ((congrArg BitVec.ofBool hd).symm.trans e) (by decide)

/-- Where the predicate holds, every entry of both arguments is a real number. -/
theorem real_of_pre (q k : FVec Ideal S1024x256x32 .f32) (h : Cert.Pre_finite.fn (F := Ideal) q k = fun _ => 1#1) :
    (∀ y : SArg.Idx, ∃ a : ℝ, (q y : EReal) = (a : EReal)) ∧ (∀ y : SArg.Idx, ∃ a : ℝ, (k y : EReal) = (a : EReal)) := by
  have j : S_.Idx := fun i => i.elim0
  obtain ⟨hq, hk⟩ := IntOp.andi_eq_one.1 (congrFun h j)
  exact ⟨real_of_all q j hq, real_of_all k j hk⟩

end Cert.Finite
-- ==== Proof.lean ====
/-
  The certificate. The frames of the two printings of the kernel are the generated ones; the reference declares no
  semaphore, so its frame is its run. The value claim puts together what the kernel's arrays hold (`Proof/Array.lean`),
  what the reference computes (`Proof/Reference.lean`) and what the precondition says (`Proof/Finite.lean`): both programs
  end with the arrays of `Proof/Spec.lean`.
-/
module

public import proofs.«01_k».proof.Defs
public import proofs.«01_k».proof.Proof.Gen.Kernel.Frame
public import proofs.«01_k».proof.Proof.Gen.KernelIdeal.Frame
public import proofs.«01_k».proof.Proof.Array
public import proofs.«01_k».proof.Proof.Reference
public import proofs.«01_k».proof.Proof.Finite
public import Idealize.ShloMosaic.Lib.Quiescent

@[expose] public section

noncomputable section

namespace Cert.Proof

open Idealize.ShloMosaic Idealize.ShloMosaic.TcCoe Idealize.SL.Sem

/-- The reference runs, leaves its arguments unchanged and has every counter at zero. -/
theorem reference_frame : quiescent_ReferenceIdeal (hReferenceIdeal := Cert.ReferenceIdeal.Gen.facts) := fun m g _ =>
  (θ_run _ _ _).mono (fun r h => ⟨fun c => ⟨(h c).2.2.1, (h c).2.2.2⟩, sem_eq_zero_of_no_sems (by decide) r.2⟩)
    (Cert.ReferenceIdeal.Value.run m g)

/-- From finite arguments the kernel and the reference end with equal results: the weights and columns of the selection. -/
theorem results_equal : algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have hne : ∀ c n i j, Spec.logits (Array.query m c) (Array.key m c) n i j ≠ ⊥ := fun c n i j =>
    Spec.logits_ne_bot _ _ (Finite.real_of_pre _ _ (hpre c)).1 (Finite.real_of_pre _ _ (hpre c)).2 n i j
  refine ⟨fun c => Spec.weightArray (Array.query m c) (Array.key m c),
    fun c => Spec.columnArray (Array.query m c) (Array.key m c), ?_, ?_⟩
  · exact (θ_run _ _ _).mono (fun r h c => ⟨(h c).1.trans (Array.weights_final m c (hne c)),
      (h c).2.1.trans (Array.columns_final m c), (h c).2.2⟩) (Cert.KernelIdeal.Value.run_blocks m g)
  · refine (θ_run _ _ _).mono (fun r h c => ⟨(h c).1.trans ?_, (h c).2.1.trans ?_, (h c).2.2⟩)
      (Cert.ReferenceIdeal.Value.run m' g')
    · rw [(hagree c).1, (hagree c).2]
      exact Reference.weights_eq (Array.query m c) (Array.key m c) (hne c)
    · rw [(hagree c).1, (hagree c).2]
      exact Reference.columns_eq (Array.query m c) (Array.key m c) (hne c)

/-- Everything the certificate claims. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    results_equal⟩

end Cert.Proof

end
